-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6144x7168 : Shape := ⟨2, ![6144, 7168]⟩
abbrev S1792x18432 : Shape := ⟨2, ![1792, 18432]⟩
abbrev S18432 : Shape := ⟨1, ![18432]⟩
abbrev S6144x56x16x2x4 : Shape := ⟨5, ![6144, 56, 16, 2, 4]⟩
abbrev S6144x56x4x2x16 : Shape := ⟨5, ![6144, 56, 4, 2, 16]⟩
abbrev S1x18432 : Shape := ⟨2, ![1, 18432]⟩
abbrev S6144x18432 : Shape := ⟨2, ![6144, 18432]⟩
abbrev S512x7168 : Shape := ⟨2, ![512, 7168]⟩
abbrev S1792x512 : Shape := ⟨2, ![1792, 512]⟩
abbrev S1x512 : Shape := ⟨2, ![1, 512]⟩
abbrev S512x512 : Shape := ⟨2, ![512, 512]⟩
abbrev S7168x512 : Shape := ⟨2, ![7168, 512]⟩
abbrev S32x512 : Shape := ⟨2, ![32, 512]⟩
abbrev S8x512 : Shape := ⟨2, ![8, 512]⟩
abbrev S16x512 : Shape := ⟨2, ![16, 512]⟩

abbrev nBuf : Space → Nat
  | .hbm => 8
  | .vmem => 9
  | .smem => 0
  | _ => 0

abbrev bufTy : (tb : Table) → Fin (tcTables nBuf tb) → BufTy
  | .hbm, ⟨0, _⟩ => ⟨S6144x7168, .bf16⟩
  | .hbm, ⟨1, _⟩ => ⟨S1792x18432, .i8⟩
  | .hbm, ⟨2, _⟩ => ⟨S18432, .f32⟩
  | .hbm, ⟨3, _⟩ => ⟨S6144x56x16x2x4, .bf16⟩
  | .hbm, ⟨4, _⟩ => ⟨S6144x56x4x2x16, .bf16⟩
  | .hbm, ⟨5, _⟩ => ⟨S6144x7168, .bf16⟩
  | .hbm, ⟨6, _⟩ => ⟨S1x18432, .f32⟩
  | .hbm, ⟨7, _⟩ => ⟨S6144x18432, .bf16⟩
  | .local _ .vmem, ⟨0, _⟩ => ⟨S512x7168, .bf16⟩
  | .local _ .vmem, ⟨1, _⟩ => ⟨S512x7168, .bf16⟩
  | .local _ .vmem, ⟨2, _⟩ => ⟨S1792x512, .i8⟩
  | .local _ .vmem, ⟨3, _⟩ => ⟨S1792x512, .i8⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S7168x512, .bf16⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6144x7168 : Shape := ⟨2, ![6144, 7168]⟩
abbrev S1792x18432 : Shape := ⟨2, ![1792, 18432]⟩
abbrev S18432 : Shape := ⟨1, ![18432]⟩
abbrev S6144x1792x4 : Shape := ⟨3, ![6144, 1792, 4]⟩
abbrev S_ : Shape := ⟨0, ![]⟩
abbrev S6144x1792x1 : Shape := ⟨3, ![6144, 1792, 1]⟩
abbrev S6144x1792 : Shape := ⟨2, ![6144, 1792]⟩
abbrev S6144x18432 : Shape := ⟨2, ![6144, 18432]⟩
abbrev S1x18432 : Shape := ⟨2, ![1, 18432]⟩

abbrev nBuf : Space → Nat
  | .hbm => 67
  | .vmem => 0
  | .smem => 0
  | _ => 0

abbrev bufTy : (tb : Table) → Fin (tcTables nBuf tb) → BufTy
  | .hbm, ⟨0, _⟩ => ⟨S6144x7168, .bf16⟩
  | .hbm, ⟨1, _⟩ => ⟨S1792x18432, .i8⟩
  | .hbm, ⟨2, _⟩ => ⟨S18432, .f32⟩
  | .hbm, ⟨3, _⟩ => ⟨S6144x1792x4, .bf16⟩
  | .hbm, ⟨4, _⟩ => ⟨S1792x18432, .i32⟩
  | .hbm, ⟨5, _⟩ => ⟨S_, .i32⟩
  | .hbm, ⟨6, _⟩ => ⟨S1792x18432, .i32⟩
  | .hbm, ⟨7, _⟩ => ⟨S1792x18432, .i32⟩
  | .hbm, ⟨8, _⟩ => ⟨S_, .i32⟩
  | .hbm, ⟨9, _⟩ => ⟨S1792x18432, .i32⟩
  | .hbm, ⟨10, _⟩ => ⟨S1792x18432, .i32⟩
  | .hbm, ⟨11, _⟩ => ⟨S1792x18432, .bf16⟩
  | .hbm, ⟨12, _⟩ => ⟨S_, .bf16⟩
  | .hbm, ⟨13, _⟩ => ⟨S1792x18432, .bf16⟩
  | .hbm, ⟨14, _⟩ => ⟨S1792x18432, .bf16⟩
  | .hbm, ⟨15, _⟩ => ⟨S6144x1792x1, .bf16⟩
  | .hbm, ⟨16, _⟩ => ⟨S6144x1792, .bf16⟩
  | .hbm, ⟨17, _⟩ => ⟨S6144x18432, .f32⟩
  | .hbm, ⟨18, _⟩ => ⟨S1792x18432, .i32⟩
  | .hbm, ⟨19, _⟩ => ⟨S_, .i32⟩
  | .hbm, ⟨20, _⟩ => ⟨S1792x18432, .i32⟩
  | .hbm, ⟨21, _⟩ => ⟨S1792x18432, .i32⟩
  | .hbm, ⟨22, _⟩ => ⟨S_, .i32⟩
  | .hbm, ⟨23, _⟩ => ⟨S1792x18432, .i32⟩
  | .hbm, ⟨24, _⟩ => ⟨S1792x18432, .i32⟩
  | .hbm, ⟨25, _⟩ => ⟨S1792x18432, .bf16⟩
  | .hbm, ⟨26, _⟩ => ⟨S_, .bf16⟩
  | .hbm, ⟨27, _⟩ => ⟨S1792x18432, .bf16⟩
  | .hbm, ⟨28, _⟩ => ⟨S1792x18432, .bf16⟩
  | .hbm, ⟨29, _⟩ => ⟨S6144x1792x1, .bf16⟩
  | .hbm, ⟨30, _⟩ => ⟨S6144x1792, .bf16⟩
  | .hbm, ⟨31, _⟩ => ⟨S6144x18432, .f32⟩
  | .hbm, ⟨32, _⟩ => ⟨S6144x18432, .f32⟩
  | .hbm, ⟨33, _⟩ => ⟨S1792x18432, .i32⟩
  | .hbm, ⟨34, _⟩ => ⟨S_, .i32⟩
  | .hbm, ⟨35, _⟩ => ⟨S1792x18432, .i32⟩
  | .hbm, ⟨36, _⟩ => ⟨S1792x18432, .i32⟩
  | .hbm, ⟨37, _⟩ => ⟨S_, .i32⟩
  | .hbm, ⟨38, _⟩ => ⟨S1792x18432, .i32⟩
  | .hbm, ⟨39, _⟩ => ⟨S1792x18432, .i32⟩
  | .hbm, ⟨40, _⟩ => ⟨S1792x18432, .bf16⟩
  | .hbm, ⟨41, _⟩ => ⟨S_, .bf16⟩
  | .hbm, ⟨42, _⟩ => ⟨S1792x18432, .bf16⟩
  | .hbm, ⟨43, _⟩ => ⟨S1792x18432, .bf16⟩
  | .hbm, ⟨44, _⟩ => ⟨S6144x1792x1, .bf16⟩
  | .hbm, ⟨45, _⟩ => ⟨S6144x1792, .bf16⟩
  | .hbm, ⟨46, _⟩ => ⟨S6144x18432, .f32⟩
  | .hbm, ⟨47, _⟩ => ⟨S6144x18432, .f32⟩
  | .hbm, ⟨48, _⟩ => ⟨S1792x18432, .i32⟩
  | .hbm, ⟨49, _⟩ => ⟨S_, .i32⟩
  | .hbm, ⟨50, _⟩ => ⟨S1792x18432, .i32⟩
  | .hbm, ⟨51, _⟩ => ⟨S1792x18432, .i32⟩
  | .hbm, ⟨52, _⟩ => ⟨S_, .i32⟩
  | .hbm, ⟨53, _⟩ => ⟨S1792x18432, .i32⟩
  | .hbm, ⟨54, _⟩ => ⟨S1792x18432, .i32⟩
  | .hbm, ⟨55, _⟩ => ⟨S1792x18432, .bf16⟩
  | .hbm, ⟨56, _⟩ => ⟨S_, .bf16⟩
  | .hbm, ⟨57, _⟩ => ⟨S1792x18432, .bf16⟩
  | .hbm, ⟨58, _⟩ => ⟨S1792x18432, .bf16⟩
  | .hbm, ⟨59, _⟩ => ⟨S6144x1792x1, .bf16⟩
  | .hbm, ⟨60, _⟩ => ⟨S6144x1792, .bf16⟩
  | .hbm, ⟨61, _⟩ => ⟨S6144x18432, .f32⟩
  | .hbm, ⟨62, _⟩ => ⟨S6144x18432, .f32⟩
  | .hbm, ⟨63, _⟩ => ⟨S1x18432, .f32⟩
  | .hbm, ⟨64, _⟩ => ⟨S6144x18432, .f32⟩
  | .hbm, ⟨65, _⟩ => ⟨S6144x18432, .f32⟩
  | .hbm, ⟨66, _⟩ => ⟨S6144x18432, .bf16⟩
  | _, _ => ⟨S6144x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Weight.lean ====
/-
  The weight that a two-bit field of a code byte stands for, and how the kernel makes it.

  A byte `b` of the codes holds four fields of two bits; field `k` is `b / 4 ^ k % 4` (`field`) and stands for the
  weight `field - 3/2` (`weight`). The kernel reads four bytes of a column as one 32-bit word, shifts the word so that
  the wanted field of two of the bytes comes to bits 5 and 6 of the two halves, keeps those bits, sets the bits of the
  `bf16` number 4 around them, and reads each half as a `bf16` number: it is `4 + field`, and 5.5 less is the weight.
  `fieldTile_apply` says so for one tile of 16 rows.
-/
module

public import Idealize.ShloMosaic.Lib.BitcastFour
public import Idealize.ShloMosaic.Lib.ValueIdx
public import Idealize.ShloMosaic.PureOps.Ideal.Laws
public import Mathlib.Tactic.NormNum

@[expose] public section

noncomputable section

open Idealize.ShloMosaic

namespace Cert.Int2

/-- Field `k` of a code byte: its bits `2k` and `2k + 1`. -/
def field (k : ℕ) (b : BitVec 8) : ℕ := b.toNat / 4 ^ k % 4

/-- The weight that field `k` of a code byte stands for. -/
def weight (k : ℕ) (b : BitVec 8) : EReal := (((field k b : ℕ) : ℝ) - 3 / 2 : ℝ)

/-- Field `k` is the number that bits `2k` and `2k + 1` write. -/
theorem field_eq_bits (k : ℕ) (hk : k < 4) (b : BitVec 8) :
    field k b = (b.getLsbD (2 * k)).toNat + 2 * (b.getLsbD (2 * k + 1)).toNat := by
  unfold field
  revert b
  obtain rfl | rfl | rfl | rfl : k = 0 ∨ k = 1 ∨ k = 2 ∨ k = 3 := by omega
  all_goals decide +kernel

/-- The `bf16` word whose exponent is that of 4 and whose bits 5 and 6 are `x` and `y`: it is `4 + x + 2y`, so that
    5.5 less is the weight of the field with the bits `x` and `y`. -/
theorem ofBits_sub (h : BitVec 16) (x y : Bool)
    (hh : h = 0x4080#16 ||| ((BitVec.ofBool x).setWidth 16 <<< 5) ||| ((BitVec.ofBool y).setWidth 16 <<< 6)) :
    FloatOps.subf (F := Ideal) (FloatOps.ofBits (F := Ideal) .bf16 h) (FloatOps.ofBits (F := Ideal) .bf16 0x40B0#16)
      = (((x.toNat + 2 * y.toNat : ℕ) : ℝ) - 3 / 2 : ℝ) := by
  subst hh
  rw [Ideal.subf_def]
  show Ideal.ieee 8 7 (w := 16) _ - Ideal.ieee 8 7 (w := 16) 0x40B0#16 = _
  have e (c : BitVec 16) (s : ℕ) (hs : c.extractLsb' 15 1 = 0#1 ∧ c.extractLsb' 7 8 = 129#8 ∧ (c.extractLsb' 0 7).toNat = s) :
      Ideal.ieee 8 7 c = (((128 + s : ℕ) : ℝ) / 32 : ℝ) := by
    obtain ⟨h1, h2, h3⟩ := hs
    unfold Ideal.ieee
    simp only [show 8 + 7 = 15 from rfl, h1, h2, h3]
    rw [if_neg (by decide), if_neg (by decide)]
    refine congrArg Real.toEReal ?_
    rw [show ((129#8).toNat : ℤ) - (2 ^ (8 - 1) - 1) - (7 : ℕ) = -5 by decide, zpow_neg]
    norm_num
    ring
  rw [e 0x40B0#16 48 (by decide)]
  cases x <;> cases y
  · rw [e _ 0 (by decide), ← EReal.coe_sub]; norm_num
  · rw [e _ 64 (by decide), ← EReal.coe_sub]; norm_num
  · rw [e _ 32 (by decide), ← EReal.coe_sub]; norm_num
  · rw [e _ 96 (by decide), ← EReal.coe_sub]; norm_num

/-- A word masked to bits 5 and 6 of each half, with the bits of 4 set: each half is a word of `ofBits_sub`. -/
theorem masked_half (w : BitVec 32) (hf : ℕ) (hhf : hf < 2) :
    ((w &&& 0x00600060#32) ||| 0x40804080#32).extractLsb' (16 * hf) 16
      = 0x4080#16 ||| ((BitVec.ofBool (w.getLsbD (16 * hf + 5))).setWidth 16 <<< 5)
          ||| ((BitVec.ofBool (w.getLsbD (16 * hf + 6))).setWidth 16 <<< 6) := by
  obtain rfl | rfl : hf = 0 ∨ hf = 1 := by omega
  all_goals
    apply BitVec.eq_of_getLsbD_eq
    intro i hi
    interval_cases i <;> simp

abbrev S8 : Shape := ⟨2, ![8, 512]⟩
abbrev S16 : Shape := ⟨2, ![16, 512]⟩
abbrev S32 : Shape := ⟨2, ![32, 512]⟩

/-- The tile that the kernel makes of shifted words: mask, set the bits of 4, read the halves as `bf16`, subtract 5.5. -/
def fieldTile {F : FTy → Type} [FloatOps F] (words : IVec S8 32) (h : S8.Bitcasts 32 S16 16) : FVec F S16 .bf16 :=
  subf (bitcastToFloat .bf16 (bitcast S16 16 (ori (andi words (broadcast S8 6291552#32)) (broadcast S8 1082146944#32)) h))
    (broadcast S16 (Scalar.ofBits .bf16 0x40B0#16))

/-- Row `j` of the tile comes from half `j % 2` of word row `j / 2`. -/
theorem fieldTile_bits (words : IVec S8 32) (h : S8.Bitcasts 32 S16 16) (j : Fin 16) (n : Fin 512) (r : Fin 8)
    (hr : r.val = j.val / 2) :
    fieldTile (F := Ideal) words h (ValueIdx.ix2 j n)
      = ((((((words (ValueIdx.ix2 r n)).getLsbD (16 * (j.val % 2) + 5)).toNat
          + 2 * ((words (ValueIdx.ix2 r n)).getLsbD (16 * (j.val % 2) + 6)).toNat : ℕ) : ℝ) - 3 / 2 : ℝ) : EReal) := by
  unfold fieldTile
  show FloatOps.subf (FloatOps.ofBits .bf16 (bitcast S16 16 _ h (ValueIdx.ix2 j n))) (FloatOps.ofBits .bf16 0x40B0#16) = _
  apply ofBits_sub
  rw [bitcast_32_16]
  rw [show h.srcIdx (ValueIdx.ix2 j n) (S16.row (ValueIdx.ix2 j n) / 2) _ = ValueIdx.ix2 r n from funext fun c =>
    match c with
    | ⟨0, _⟩ => Fin.ext ((h.srcIdx_row _ _ _ ⟨0, Nat.zero_lt_two⟩ rfl).trans hr.symm)
    | ⟨1, _⟩ => Fin.ext (h.srcIdx_other _ _ _ ⟨1, Nat.one_lt_two⟩ (by show ¬ 1 + 2 = 2; omega))]
  exact masked_half (words (ValueIdx.ix2 r n)) (j.val % 2) (by omega)

/-- The tile of field `k`, parity `e`: the shifted words bring bits `2k + 8e` and `2k + 8e + 1` of every half of the words
    of 32 code rows to bits 5 and 6. Then row `j` of the tile is the weight of field `k` of code row `2j + e`. -/
theorem fieldTile_apply (k e : ℕ) (hk : k < 4) (he : e < 2) (v : IVec S32 8) (hb : S32.Bitcasts 8 S8 32)
    (words : IVec S8 32) (h : S8.Bitcasts 32 S16 16)
    (hw : ∀ i (q : ℕ), q < 2 → ∀ p < 2, (words i).getLsbD (16 * q + 5 + p) = (bitcast S8 32 v hb i).getLsbD (16 * q + 2 * k + 8 * e + p))
    (j : Fin 16) (n : Fin 512) (r : Fin 32) (hr : r.val = 2 * j.val + e) :
    fieldTile (F := Ideal) words h (ValueIdx.ix2 j n) = weight k (v (ValueIdx.ix2 r n)) := by
  rw [fieldTile_bits words h j n ⟨j.val / 2, by omega⟩ rfl]
  have h0 := hw (ValueIdx.ix2 ⟨j.val / 2, by omega⟩ n) (j.val % 2) (by omega) 0 (by omega)
  have h1 := hw (ValueIdx.ix2 ⟨j.val / 2, by omega⟩ n) (j.val % 2) (by omega) 1 (by omega)
  rw [bitcast_8_32_getLsbD_ix2 v hb _ n _ (by omega) r (by show r.val = 4 * (j.val / 2) + _; omega)] at h0 h1
  rw [show 16 * (j.val % 2) + 5 + 0 = 16 * (j.val % 2) + 5 from rfl,
    show (16 * (j.val % 2) + 2 * k + 8 * e + 0) % 8 = 2 * k by omega] at h0
  rw [show 16 * (j.val % 2) + 5 + 1 = 16 * (j.val % 2) + 6 from rfl,
    show (16 * (j.val % 2) + 2 * k + 8 * e + 1) % 8 = 2 * k + 1 by omega] at h1
  rw [h0, h1]
  unfold weight
  rw [field_eq_bits k hk]

/-- A shift to the left by `5 - (2k + 8e)` brings the field where the tile takes it. -/
theorem shl_bits (k e a : ℕ) (ha : a + (2 * k + 8 * e) = 5) (w : IVec S8 32) (i : S8.Idx) (q : ℕ) (hq : q < 2) (p : ℕ) (hp : p < 2) :
    (shli w (broadcast S8 (BitVec.ofNat 32 a)) i).getLsbD (16 * q + 5 + p) = (w i).getLsbD (16 * q + 2 * k + 8 * e + p) := by
  show (IntOp.shli .vector (w i) (BitVec.ofNat 32 a)).getLsbD _ = _
  unfold IntOp.shli
  have hn : (BitVec.ofNat 32 a).toNat = a := by rw [BitVec.toNat_ofNat]; omega
  rw [if_pos (by rw [hn]; omega), BitVec.shiftLeft_eq', hn, BitVec.getLsbD_shiftLeft]
  rw [show 16 * q + 5 + p - a = 16 * q + 2 * k + 8 * e + p by omega]
  simp only [show 16 * q + 5 + p < 32 by omega, show ¬ 16 * q + 5 + p < a by omega, decide_true, decide_false, Bool.true_and, Bool.not_false]

/-- A shift to the right by `2k + 8e - 5` does. -/
theorem shr_bits (k e a : ℕ) (hk : k < 4) (he : e < 2) (ha : 5 + a = 2 * k + 8 * e) (w : IVec S8 32) (i : S8.Idx) (q : ℕ) (hq : q < 2)
    (p : ℕ) (hp : p < 2) :
    (shrui w (broadcast S8 (BitVec.ofNat 32 a)) i).getLsbD (16 * q + 5 + p) = (w i).getLsbD (16 * q + 2 * k + 8 * e + p) := by
  show (IntOp.shrui .vector (w i) (BitVec.ofNat 32 a)).getLsbD _ = _
  unfold IntOp.shrui
  have hn : (BitVec.ofNat 32 a).toNat = a := by rw [BitVec.toNat_ofNat]; omega
  rw [if_pos (by rw [hn]; omega), BitVec.ushiftRight_eq', hn, BitVec.getLsbD_ushiftRight]
  rw [show a + (16 * q + 5 + p) = 16 * q + 2 * k + 8 * e + p by omega]

end Cert.Int2

end
-- ==== Proof.Scratch.lean ====
/-
  What the scratch of the matrix product holds when the product reads it.

  The body fills the scratch `[7168, 512]` by 448 tiles of 16 rows: tile `o / 16`, at row `o`, holds field
  `o % 128 / 32` of the 16 code rows of group `o / 128` whose parity is `o / 16 % 2`. All tiles agree with one function
  of the block of codes (`weights`), and they cover the scratch (`scratch_eq`).
-/
module

public import proofs.«01_k».proof.Proof.Weight
public import proofs.«01_k».proof.Proof.Gen.KernelIdeal.Frame
public import Idealize.ShloMosaic.Lib.Pipeline.Value
public import Idealize.ShloMosaic.Lib.Tactic
public import Idealize.ShloMosaic.Lib.Pointwise.TacticCore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Int2

/-- The code row that scratch row `r` is made of. -/
def codeRow (r : Fin 7168) : Fin 1792 := ⟨r.val / 128 * 32 + 2 * (r.val % 16) + r.val / 16 % 2, by omega⟩

/-- The weights that a block of codes stands for, in the order of the scratch. -/
def weights (x1 : Vec Ideal S1792x512 .i8) : Vec Ideal S7168x512 .bf16 := fun y =>
  weight ((y 0).val % 128 / 32) (x1 (ValueIdx.ix2 (codeRow (y 0)) (y 1)))

/-- A piece of the scratch holds the weights of its rows. -/
def IsTile (x1 : Vec Ideal S1792x512 .i8) (p : View.Piece (Elt Ideal) S7168x512 .bf16) : Prop :=
  ∀ x : p.1.shape.Idx, p.2 x = weights x1 (p.1.emb x)

section Tile

variable (a3 : Memref sig .tc .vmem S1792x512 .i8) (h3 : a3.IsWhole) (x1 : Vec Ideal S1792x512 .i8)

/-- The words of the group of code rows that the tile at row `o` is made of. -/
abbrev groupWords (o : ℕ) (inb : ∀ a, (![o / 128 * 32, 0] : Fin 2 → ℕ) a + S32x512.size a ≤ S1792x512.size a) : IVec S8x512 32 :=
  bitcast S8x512 32 (View.readAt (Elt Ideal) a3.view (Rect.unit (s := S1792x512) ![o / 128 * 32, 0] S32x512.size inb).toLoadRect (h3.unread x1))
    bitcasts_S32x512_w8_S8x512_w32

/-- The tile at row `o`, made of words that bring field `k` of the rows of parity `e` to bits 5 and 6. -/
theorem isTile (k e : ℕ) (hk : k < 4) (he : e < 2) (o : ℕ) (ho : o % 128 = 32 * k + 16 * e)
    (inb : ∀ a, (![o, 0] : Fin 2 → ℕ) a + S16x512.size a ≤ S7168x512.size a)
    (inb3 : ∀ a, (![o / 128 * 32, 0] : Fin 2 → ℕ) a + S32x512.size a ≤ S1792x512.size a)
    (words : IVec S8x512 32)
    (hw : ∀ i (q : ℕ), q < 2 → ∀ p < 2, (words i).getLsbD (16 * q + 5 + p)
      = (groupWords a3 h3 x1 o inb3 i).getLsbD (16 * q + 2 * k + 8 * e + p))
    (w : Vec Ideal S16x512 .bf16) (hv : w = shapeCast S16x512 (fieldTile (F := Ideal) words bitcasts_S8x512_w32_S16x512_w16) shapeCasts_S16x512_S16x512) :
    IsTile x1 ⟨Rect.unit (s := S7168x512) ![o, 0] S16x512.size inb, w⟩ := by
  intro x
  subst hv
  rw [shapeCast_self]
  obtain ⟨j, n, rfl⟩ : ∃ (j : Fin 16) (n : Fin 512), x = ValueIdx.ix2 j n := ⟨x 0, x 1, ValueIdx.eq_ix2 x⟩
  have h0 := inb 0
  have h0' : o + 16 ≤ 7168 := h0
  refine (fieldTile_apply k e hk he _ _ words _ hw j n ⟨2 * j.val + e, by omega⟩ rfl).trans ?_
  unfold weights
  have e0 : ((Rect.unit (s := S7168x512) ![o, 0] S16x512.size inb).emb (ValueIdx.ix2 j n) 0).val = o + j.val := by
    show o + 1 * j.val = _
    omega
  rw [View.readAt_eq_ld, h3.read_unread]
  rw [e0, show (o + j.val) % 128 / 32 = k by omega]
  refine congrArg (fun y => weight k (x1 y)) (funext fun a => ?_)
  match a with
  | ⟨0, _⟩ =>
    refine Fin.ext ?_
    show o / 128 * 32 + 1 * (2 * j.val + e) = (codeRow _).val
    unfold codeRow
    show _ = _ / 128 * 32 + 2 * (_ % 16) + _ / 16 % 2
    rw [e0]
    omega
  | ⟨1, _⟩ => refine Fin.ext ?_; show 0 + 1 * n.val = 0 + 1 * n.val; rfl

/-- The tile of field `k`, parity `e`, where the words are shifted to the left. -/
theorem isTile_shl (k e a : ℕ) (ha : a + (2 * k + 8 * e) = 5) (o : ℕ) (ho : o % 128 = 32 * k + 16 * e)
    (inb : ∀ a, (![o, 0] : Fin 2 → ℕ) a + S16x512.size a ≤ S7168x512.size a)
    (inb3 : ∀ a, (![o / 128 * 32, 0] : Fin 2 → ℕ) a + S32x512.size a ≤ S1792x512.size a)
    (w : Vec Ideal S16x512 .bf16)
    (hv : w = shapeCast S16x512 (fieldTile (F := Ideal) (shli (groupWords a3 h3 x1 o inb3) (broadcast S8x512 (BitVec.ofNat 32 a)))
      bitcasts_S8x512_w32_S16x512_w16) shapeCasts_S16x512_S16x512) :
    IsTile x1 ⟨Rect.unit (s := S7168x512) ![o, 0] S16x512.size inb, w⟩ :=
  isTile a3 h3 x1 k e (by omega) (by omega) o ho inb inb3 _ (fun i q hq p hp => shl_bits k e a ha _ i q hq p hp) w hv

/-- The tile of field `k`, parity `e`, where the words are shifted to the right. -/
theorem isTile_shr (k e a : ℕ) (hk : k < 4) (he : e < 2) (ha : 5 + a = 2 * k + 8 * e) (o : ℕ) (ho : o % 128 = 32 * k + 16 * e)
    (inb : ∀ a, (![o, 0] : Fin 2 → ℕ) a + S16x512.size a ≤ S7168x512.size a)
    (inb3 : ∀ a, (![o / 128 * 32, 0] : Fin 2 → ℕ) a + S32x512.size a ≤ S1792x512.size a)
    (w : Vec Ideal S16x512 .bf16)
    (hv : w = shapeCast S16x512 (fieldTile (F := Ideal) (shrui (groupWords a3 h3 x1 o inb3) (broadcast S8x512 (BitVec.ofNat 32 a)))
      bitcasts_S8x512_w32_S16x512_w16) shapeCasts_S16x512_S16x512) :
    IsTile x1 ⟨Rect.unit (s := S7168x512) ![o, 0] S16x512.size inb, w⟩ :=
  isTile a3 h3 x1 k e hk he o ho inb inb3 _ (fun i q hq p hp => shr_bits k e a hk he ha _ i q hq p hp) w hv

end Tile

set_option maxHeartbeats 2000000 in
/-- Every piece of the scratch is a tile: the last group first, and in a group the last field first. -/
theorem pieces_tile (c : Dev nD) (a3 : Memref sig .tc .vmem S1792x512 .i8) (h3 : a3.IsWhole) (x1 : Vec Ideal S1792x512 .i8) :
    ∀ p ∈ kernelRun0_A.sl.HS0_448 (F := Ideal) c a3 h3 x1, IsTile x1 p := by
  unfold kernelRun0_A.sl.HS0_448
  iterate 56
    refine List.forall_mem_cons.2 ⟨isTile_shr a3 h3 x1 3 1 9 (by decide) (by decide) (by decide) _ rfl _ (by decide) _
      (by sl_unfold_run_names; unfold_payloads; unfold fieldTile; rfl), ?_⟩
    refine List.forall_mem_cons.2 ⟨isTile_shr a3 h3 x1 3 0 1 (by decide) (by decide) (by decide) _ rfl _ (by decide) _
      (by sl_unfold_run_names; unfold_payloads; unfold fieldTile; rfl), ?_⟩
    refine List.forall_mem_cons.2 ⟨isTile_shr a3 h3 x1 2 1 7 (by decide) (by decide) (by decide) _ rfl _ (by decide) _
      (by sl_unfold_run_names; unfold_payloads; unfold fieldTile; rfl), ?_⟩
    refine List.forall_mem_cons.2 ⟨isTile_shl a3 h3 x1 2 0 1 (by decide) _ rfl _ (by decide) _
      (by sl_unfold_run_names; unfold_payloads; unfold fieldTile; rfl), ?_⟩
    refine List.forall_mem_cons.2 ⟨isTile_shr a3 h3 x1 1 1 5 (by decide) (by decide) (by decide) _ rfl _ (by decide) _
      (by sl_unfold_run_names; unfold_payloads; unfold fieldTile; rfl), ?_⟩
    refine List.forall_mem_cons.2 ⟨isTile_shl a3 h3 x1 1 0 3 (by decide) _ rfl _ (by decide) _
      (by sl_unfold_run_names; unfold_payloads; unfold fieldTile; rfl), ?_⟩
    refine List.forall_mem_cons.2 ⟨isTile_shr a3 h3 x1 0 1 3 (by decide) (by decide) (by decide) _ rfl _ (by decide) _
      (by sl_unfold_run_names; unfold_payloads; unfold fieldTile; rfl), ?_⟩
    refine List.forall_mem_cons.2 ⟨isTile_shl a3 h3 x1 0 0 5 (by decide) _ rfl _ (by decide) _
      (by sl_unfold_run_names; unfold_payloads; unfold fieldTile; rfl), ?_⟩
  exact fun _ h => absurd h List.not_mem_nil

/-- The offsets of a load of a whole buffer. -/
theorem zero_off : (![0, 0] : Fin 2 → ℕ) = fun _ => 0 := funext fun a => by fin_cases a <;> rfl

/-- The product reads the weights of the block of codes. -/
theorem scratch_eq (c : Dev nD) (a3 : Memref sig .tc .vmem S1792x512 .i8) (h3 : a3.IsWhole)
    (a6 : Memref sig .tc .vmem S7168x512 .bf16) (x1 : Vec Ideal S1792x512 .i8) :
    kernelRun0_A.sl.v5490 (F := Ideal) c a3 h3 a6 x1 = weights x1 := by
  have hc : ∀ y, ∃ p ∈ kernelRun0_A.sl.HS0_448 (F := Ideal) c a3 h3 x1, y ∈ p.1.set :=
    View.cover_of_tiledL _ S16x512.size (by sl_kernel_rfl)
  unfold kernelRun0_A.sl.v5490
  rw [View.readCov_eq_canon_ld _ _ _ hc, View.ld_unit_zero (S := S7168x512) zero_off]
  exact funext fun y => View.canon_apply_of_pieces (weights x1) _ (pieces_tile c a3 h3 x1) y (hc y)

end Cert.KernelIdeal.Value

end
-- ==== Proof.Product.lean ====
/-
  What the matrix product leaves in its result array.

  At one grid point the body leaves, at row `i` and column `j` of the block, the sum over the 7168 features of the block
  of `z` times the weights of the scratch, times the scale of the column (`out_apply`). The blocks of the 12 by 36 grid
  points tile the result array, which so ends holding one function of the three arrays that the call is given
  (`product`, `final_o`).
-/
module

public import proofs.«01_k».proof.Proof.Scratch

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Int2

/-- The row of the block of `z` that an element of the product reads is its own row, -/
theorem lhsIdx_row (i : S512x512.Idx) (q : dot_S512x7168_S7168x512_S512x512_1_0_0_1_n_n.contr.Idx) : (dot_S512x7168_S7168x512_S512x512_1_0_0_1_n_n.lhsIdx i q 0).val = (i 0).val := by
  unfold DotDims.lhsIdx
  rw [dif_neg (show ¬(0 : Fin S512x7168.rank) ∈ dot_S512x7168_S7168x512_S512x512_1_0_0_1_n_n.lhsBatch by decide),
    dif_pos (show (0 : Fin S512x7168.rank) ∈ dot_S512x7168_S7168x512_S512x512_1_0_0_1_n_n.lhsNonContracting by decide)]
  rfl

/-- and the column of the weights is its own column. -/
theorem rhsIdx_col (i : S512x512.Idx) (q : dot_S512x7168_S7168x512_S512x512_1_0_0_1_n_n.contr.Idx) : (dot_S512x7168_S7168x512_S512x512_1_0_0_1_n_n.rhsIdx i q 1).val = (i 1).val := by
  unfold DotDims.rhsIdx
  rw [dif_neg (show ¬(1 : Fin S7168x512.rank) ∈ dot_S512x7168_S7168x512_S512x512_1_0_0_1_n_n.rhsBatch by decide),
    dif_pos (show (1 : Fin S7168x512.rank) ∈ dot_S512x7168_S7168x512_S512x512_1_0_0_1_n_n.rhsNonContracting by decide)]
  rfl

/-- The product of two blocks at an index: the sum over the features. -/
theorem matmul_at (x : Vec Ideal S512x7168 .bf16) (w : Vec Ideal S7168x512 .bf16) (i j : Fin 512) :
    matmul (F := Ideal) (φ₁ := .bf16) (φ₂ := .bf16) dot_S512x7168_S7168x512_S512x512_1_0_0_1_n_n none x w
        (constant S512x512 .f32 0x00000000#32) (ValueIdx.ix2 i j)
      = ∑ k : Fin 7168, x (ValueIdx.ix2 i k) * w (ValueIdx.ix2 k j) := by
  refine (Ideal.matmul_apply dot_S512x7168_S7168x512_S512x512_1_0_0_1_n_n none x w _ _).trans ?_
  rw [show constant (F := Ideal) S512x512 .f32 0x00000000#32 (ValueIdx.ix2 i j) = 0 from Ideal.ofBits_zero_f32, zero_add,
    ← Equiv.sum_comp (ValueIdx.contrEquiv1 dot_S512x7168_S7168x512_S512x512_1_0_0_1_n_n 7168 rfl rfl).symm]
  refine Finset.sum_congr rfl fun k _ => ?_
  have hk := ValueIdx.contrEquiv1_symm_val dot_S512x7168_S7168x512_S512x512_1_0_0_1_n_n 7168 rfl rfl k
  refine congrArg₂ (fun a b => x a * w b) (funext fun a => Fin.ext ?_) (funext fun a => Fin.ext ?_)
  · match a with
    | ⟨0, _⟩ => exact lhsIdx_row _ _
    | ⟨1, _⟩ => exact (dot_S512x7168_S7168x512_S512x512_1_0_0_1_n_n.lhsIdx_val_of_single rfl _ _).trans hk
  · match a with
    | ⟨0, _⟩ => exact (dot_S512x7168_S7168x512_S512x512_1_0_0_1_n_n.rhsIdx_val_of_single rfl _ _).trans hk
    | ⟨1, _⟩ => exact rhsIdx_col _ _

/-- What the body leaves in its block of the result, at an index. -/
theorem out_apply (c : Dev nD) (g : grid0.Coords) (a2 : Memref sig .tc .vmem S512x7168 .bf16) (h2 : a2.IsWhole)
    (a3 : Memref sig .tc .vmem S1792x512 .i8) (h3 : a3.IsWhole) (a4 : Memref sig .tc .vmem S1x512 .f32) (h4 : a4.IsWhole)
    (a5 : Memref sig .tc .vmem S512x512 .bf16) (h5 : a5.IsWhole) (a6 : Memref sig .tc .vmem S7168x512 .bf16) (h6 : a6.IsWhole)
    (x0 : Vec Ideal S512x7168 .bf16) (x1 : Vec Ideal S1792x512 .i8) (x2 : Vec Ideal S1x512 .f32) (i j : Fin 512) :
    out0_A_3 c g a2 h2 a3 h3 a4 h4 a5 h5 a6 h6 x0 x1 x2 (ValueIdx.ix2 i j)
      = (∑ k : Fin 7168, x0 (ValueIdx.ix2 i k) * weights x1 (ValueIdx.ix2 k j)) * x2 (ValueIdx.ix2 0 j) := by
  unfold out0_A_3
  rw [View.read_writes_eq_canon _ _ _ (cover0_A_3 c g a2 h2 a3 h3 a4 h4 a5 h5 a6 h6 x0 x1 x2)]
  unfold kernelRun0_A
  dsimp only
  rw [View.canon_unit_zero zero_off, scratch_eq]
  unfold k0_pay2
  simp only [View.readAt_eq_ld, h2.read_unread, h4.read_unread, View.ld_unit_zero (S := S512x7168) zero_off,
    View.ld_unit_zero (S := S1x512) zero_off, shapeCast_self]
  refine congrArg₂ (fun p q : EReal => p * q) (matmul_at x0 (weights x1) i j) (congrArg x2 (funext fun a => ?_))
  match a with
  | ⟨0, _⟩ => rfl
  | ⟨1, _⟩ => rfl

/-- What the result array is shown to hold, of the three arrays that the call is given. -/
def product (z : S6144x7168.Idx → EReal) (w : S1792x18432.Idx → BitVec 8) (s : S1x18432.Idx → EReal) : S6144x18432.Idx → EReal :=
  fun y => (∑ k : Fin 7168, z (ValueIdx.ix2 (y 0) k) * weight (k.val % 128 / 32) (w (ValueIdx.ix2 (codeRow k) (y 1))))
    * s (ValueIdx.ix2 0 (y 1))

variable (m : (ℓ : Loc nD τ sig) → Buf (Elt Ideal) ℓ) (ρ : Dev nD → PrngReg)

/-- The blocks of a grid point. -/
theorem index_eq : ∀ t : Fin cfg0.N, (win0_0.index t 0 = t.val / 36 ∧ win0_0.index t 1 = 0) ∧ (win0_1.index t 0 = 0 ∧ win0_1.index t 1 = t.val % 36)
    ∧ (win0_2.index t 0 = 0 ∧ win0_2.index t 1 = t.val % 36) ∧ (win0_3.index t 0 = t.val / 36 ∧ win0_3.index t 1 = t.val % 36) := by
  decide +kernel

/-- The result array's contents. -/
abbrev result (c : Dev nD) : Buf (Elt Ideal) ((c : Thread nD τ).loc main_v4) :=
  product (V m c main_v2) (V m c main_arg1) (V m c main_v3)

/-- A grid point's row and column of the result array, from its row and column in the block. -/
theorem lt_of_point (t : Fin cfg0.N) (i j : Fin 512) : t.val / 36 * 512 + i.val < 6144 ∧ t.val % 36 * 512 + j.val < 18432 := by
  have h : t.val < 432 := lt_of_lt_of_eq t.isLt N_0
  omega

/-- The block of `z` that a grid point reads; -/
theorem iblk0_apply (c : Dev nD) (t : Fin cfg0.N) (i j : Fin 512) (k : Fin 7168) :
    iblk m c 0 t (ValueIdx.ix2 i k) = V m c main_v2 (ValueIdx.ix2 ⟨_, (lt_of_point t i j).1⟩ k) := by
  show V m c main_v2 (((cfg0.win 0).blk t).view.emb (ValueIdx.ix2 i k)) = _
  refine congrArg (V m c main_v2) (funext fun a => Fin.ext ?_)
  match a with
  | ⟨0, _⟩ => show win0_0.index t 0 * 512 + 1 * i.val = _; rw [(index_eq t).1.1]; show _ = t.val / 36 * 512 + i.val; omega
  | ⟨1, _⟩ => show win0_0.index t 1 * 7168 + 1 * k.val = k.val; rw [(index_eq t).1.2]; omega

/-- the block of the codes; -/
theorem iblk1_apply (c : Dev nD) (t : Fin cfg0.N) (r : Fin 1792) (i j : Fin 512) :
    iblk m c 1 t (ValueIdx.ix2 r j) = V m c main_arg1 (ValueIdx.ix2 r ⟨_, (lt_of_point t i j).2⟩) := by
  show V m c main_arg1 (((cfg0.win 1).blk t).view.emb (ValueIdx.ix2 r j)) = _
  refine congrArg (V m c main_arg1) (funext fun a => Fin.ext ?_)
  match a with
  | ⟨0, _⟩ => show win0_1.index t 0 * 1792 + 1 * r.val = r.val; rw [(index_eq t).2.1.1]; omega
  | ⟨1, _⟩ => show win0_1.index t 1 * 512 + 1 * j.val = _; rw [(index_eq t).2.1.2]; show _ = t.val % 36 * 512 + j.val; omega

/-- and the block of the scales. -/
theorem iblk2_apply (c : Dev nD) (t : Fin cfg0.N) (i j : Fin 512) :
    iblk m c 2 t (ValueIdx.ix2 0 j) = V m c main_v3 (ValueIdx.ix2 0 ⟨_, (lt_of_point t i j).2⟩) := by
  show V m c main_v3 (((cfg0.win 2).blk t).view.emb (ValueIdx.ix2 0 j)) = _
  refine congrArg (V m c main_v3) (funext fun a => Fin.ext ?_)
  match a with
  | ⟨0, _⟩ => show win0_2.index t 0 * 1 + 1 * 0 = 0; rw [(index_eq t).2.2.1.1]
  | ⟨1, _⟩ => show win0_2.index t 1 * 512 + 1 * j.val = _; rw [(index_eq t).2.2.1.2]; show _ = t.val % 36 * 512 + j.val; omega

/-- What a grid point writes back is its block of `result`. -/
theorem flushed_eq (c : Dev nD) (t : Fin cfg0.N) (_ : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  unfold outsAt0
  funext y
  obtain ⟨i, j, rfl⟩ : ∃ i j : Fin 512, y = ValueIdx.ix2 i j := ⟨y 0, y 1, ValueIdx.eq_ix2 y⟩
  refine (out_apply c _ _ _ _ _ _ _ _ _ _ _ _ _ _ i j).trans ?_
  have hy : ((cfg0.win 3).blk t).view.emb (ValueIdx.ix2 i j)
      = ValueIdx.ix2 ⟨_, (lt_of_point t i j).1⟩ ⟨_, (lt_of_point t i j).2⟩ := funext fun a => Fin.ext (by
    match a with
    | ⟨0, _⟩ => show win0_3.index t 0 * 512 + 1 * i.val = t.val / 36 * 512 + i.val; rw [(index_eq t).2.2.2.1]; omega
    | ⟨1, _⟩ => show win0_3.index t 1 * 512 + 1 * j.val = t.val % 36 * 512 + j.val; rw [(index_eq t).2.2.2.2]; omega)
  show _ = result m c (((cfg0.win 3).blk t).view.emb (ValueIdx.ix2 i j))
  rw [hy]
  unfold result product weights
  refine congrArg₂ (fun p q : EReal => p * q) (Finset.sum_congr rfl fun k _ => ?_) (iblk2_apply m c t i j)
  exact congrArg₂ (fun p q : EReal => p * q) (iblk0_apply m c t i j k)
    (congrArg (weight (k.val % 128 / 32)) (iblk1_apply m c t (codeRow k) i j))

/-- Every element of the result array is in the block of some grid point. -/
theorem cover (y : S6144x18432.Idx) : ∃ t : Fin cfg0.N, (cfg0.win 3).flush t = true ∧ y ∈ ((cfg0.win 3).blk t).view.set := by
  have h0 : (y 0).val < 6144 := (y 0).isLt
  have h1 : (y 1).val < 18432 := (y 1).isLt
  have ht : (y 0).val / 512 * 36 + (y 1).val / 512 < cfg0.N := by rw [show cfg0.N = 432 from N_0]; omega
  refine ⟨⟨_, ht⟩, flush0_3 _, ?_⟩
  show y ∈ ((View.whole main_v4).slice (win0_3.rect ⟨_, ht⟩)).set
  rw [View.set_slice_whole, Rect.mem_set_unit]
  intro a
  match a with
  | ⟨0, _⟩ =>
    show win0_3.index ⟨_, ht⟩ 0 * 512 ≤ (y 0).val ∧ (y 0).val < win0_3.index ⟨_, ht⟩ 0 * 512 + 512
    rw [(index_eq ⟨_, ht⟩).2.2.2.1]
    show ((y 0).val / 512 * 36 + (y 1).val / 512) / 36 * 512 ≤ _ ∧ _ < ((y 0).val / 512 * 36 + (y 1).val / 512) / 36 * 512 + 512
    omega
  | ⟨1, _⟩ =>
    show win0_3.index ⟨_, ht⟩ 1 * 512 ≤ (y 1).val ∧ (y 1).val < win0_3.index ⟨_, ht⟩ 1 * 512 + 512
    rw [(index_eq ⟨_, ht⟩).2.2.2.2]
    show ((y 0).val / 512 * 36 + (y 1).val / 512) % 36 * 512 ≤ _ ∧ _ < ((y 0).val / 512 * 36 + (y 1).val / 512) % 36 * 512 + 512
    omega

/-- So the result array ends holding `result`. -/
theorem final_o (c : Dev nD) : (dats m 0 c).arrAt 3 cfg0.N = result m c :=
  (dats m 0 c).arrAt_eq_of_cover 3 (result m c) (flushed_eq m c) cover

/-- The run: the result array at `result`. -/
theorem run : θ_run defs (onTc (τ := τ) (main (F := Ideal))) ⟨m, fun _ => 0, ρ⟩ fun r => ∀ c : Dev nD,
      r.2.mem ((c : Thread nD τ).loc main_v4) = result m c :=
  (θ_run defs _ _).mono (fun _ h c => ((h c).1 3).trans (final_o m c)) (run_main m ρ)

end Cert.KernelIdeal.Value

end
-- ==== Proof.Reference.lean ====
/-
  What the reference computes.

  The reference splits the features of `z` into 1792 groups of four, one group for each code byte and one feature for
  each field of it, takes field `k` of every byte out with shifts and a mask, subtracts 3/2, and adds the four products,
  field after field; the sum is multiplied with the scale of the column. Element by element that is `plain`.
-/
module

public import proofs.«01_k».proof.Proof.Weight
public import proofs.«01_k».proof.Proof.Gen.ReferenceIdeal.Read

@[expose] public section

set_option maxRecDepth 16384

noncomputable section

open Idealize.ShloMosaic Idealize.ShloMosaic.TcCoe

namespace Cert.Int2

/-- The feature that field `k` of code row `j` is the weight of. -/
def feature (j : Fin 1792) (k : Fin 4) : Fin 7168 := ⟨4 * j.val + k.val, by omega⟩

/-- The sum over one field of the code bytes. -/
def fieldSum {T : ℕ} {N : ℕ} (z : (⟨2, ![T, 7168]⟩ : Shape).Idx → EReal) (w : (⟨2, ![1792, N]⟩ : Shape).Idx → BitVec 8) (i : Fin T) (j : Fin N)
    (k : Fin 4) : EReal := ∑ r : Fin 1792, z (ValueIdx.ix2 i (feature r k)) * weight k.val (w (ValueIdx.ix2 r j))

/-- The product with the weights and the scales, field after field. -/
def plain {T : ℕ} {N : ℕ} (z : (⟨2, ![T, 7168]⟩ : Shape).Idx → EReal) (w : (⟨2, ![1792, N]⟩ : Shape).Idx → BitVec 8)
    (s : (⟨1, ![N]⟩ : Shape).Idx → EReal) : (⟨2, ![T, N]⟩ : Shape).Idx → EReal :=
  fun y => (∑ k : Fin 4, fieldSum z w (y 0) (y 1) k) * s (ValueIdx.ix1 (y 1))

/-- A field taken out with a shift and a mask, made a number and lessened by 3/2, is the weight of the field. -/
theorem shifted_weight (k : ℕ) (hk : k < 4) (b : BitVec 8) (n : BitVec 32) (hn : n = BitVec.ofNat 32 (2 * k)) :
    FloatOps.subf (F := Ideal) (FloatOps.sitofp (F := Ideal) .bf16 (IntOp.andi (IntOp.shrsi .host (b.setWidth 32) n) 3#32))
      (FloatOps.ofBits (F := Ideal) .bf16 0x3FC0#16) = weight k b := by
  subst hn
  have hc : (FloatOps.ofBits (F := Ideal) .bf16 0x3FC0#16 : EReal) = ((3 / 2 : ℝ) : EReal) := by
    show Ideal.ieee 8 7 (w := 16) 0x3FC0#16 = _
    unfold Ideal.ieee
    rw [if_neg (by decide), if_neg (by decide)]
    refine congrArg Real.toEReal ?_
    rw [show (8 + 7) = 15 from rfl, show (0x3FC0#16).extractLsb' 15 1 = 0#1 by decide,
      show ((0x3FC0#16).extractLsb' 7 8).toNat = 127 by decide, show ((0x3FC0#16).extractLsb' 0 7).toNat = 64 by decide]
    norm_num
  have hi : (IntOp.andi (IntOp.shrsi .host (b.setWidth 32) (BitVec.ofNat 32 (2 * k))) 3#32).toInt = (field k b : ℤ) := by
    revert b
    obtain rfl | rfl | rfl | rfl : k = 0 ∨ k = 1 ∨ k = 2 ∨ k = 3 := by omega
    all_goals
      intro b
      unfold IntOp.shrsi IntOp.andi
      rw [if_pos (by decide)]
      revert b
      unfold field
      decide +kernel
  rw [Ideal.subf_def, hc]
  show (((IntOp.andi (IntOp.shrsi .host (b.setWidth 32) (BitVec.ofNat 32 (2 * k))) 3#32).toInt : ℝ) : EReal) - _ = _
  rw [hi, ← EReal.coe_sub]
  unfold weight
  norm_num

end Cert.Int2

namespace Cert.ReferenceIdeal.Read

open Cert.ReferenceIdeal Cert.ReferenceIdeal.Gen Cert.Int2

variable (z : S6144x7168.Idx → EReal) (w : S1792x18432.Idx → BitVec 8) (s : S18432.Idx → EReal)

/-- The place of a feature of `z`, found through the reshapes that split it off its group of four, -/
theorem row_div (a r k : ℕ) (hr : r < 1792) (hk : k < 4) :
    (((a * 1792 + r) / 1792 * 1792 + (a * 1792 + r) / 1 % 1792) * 4 + k) / 7168 = a := by omega

/-- and within its row. -/
theorem row_mod (a r k n : ℕ) (hr : r < 1792) (hk : k < 4) (hn : n = 4 * r + k) :
    (((a * 1792 + r) / 1792 * 1792 + (a * 1792 + r) / 1 % 1792) * 4 + k) % 7168 = n := by omega

/-- The four fields' products. -/
theorem field0 (y : S6144x18432.Idx) : val_main_v11 (F := Ideal) z w y = fieldSum z w (y 0) (y 1) 0 := by
  rw [val_main_v11_apply]
  refine Finset.sum_congr rfl fun r _ => congrArg₂ (fun p q : EReal => p * q) ?_ ?_
  · rw [val_main_v10_apply, val_main_v9_apply, val_main_v0_apply]
    refine congrArg z (funext fun d => Fin.ext ?_)
    match d with
    | ⟨0, _⟩ => exact row_div (y 0).val r.val 0 r.isLt (by decide)
    | ⟨1, _⟩ => exact row_mod (y 0).val r.val 0 _ r.isLt (by decide) rfl
  · rw [val_main_v8_apply, val_main_v6_apply, val_main_v5_apply, val_main_v3_apply, val_main_v1_apply, val_main_v2_apply,
      val_main_c_apply, val_main_v4_apply, val_main_c_0_apply, val_main_v7_apply, val_main_cst_apply]
    exact (shifted_weight 0 (by decide) _ _ rfl).trans (congrArg (weight 0) (congrArg w (ValueIdx.eq_ix2 _)))

theorem field1 (y : S6144x18432.Idx) : val_main_v22 (F := Ideal) z w y = fieldSum z w (y 0) (y 1) 1 := by
  rw [val_main_v22_apply]
  refine Finset.sum_congr rfl fun r _ => congrArg₂ (fun p q : EReal => p * q) ?_ ?_
  · rw [val_main_v21_apply, val_main_v20_apply, val_main_v0_apply]
    refine congrArg z (funext fun d => Fin.ext ?_)
    match d with
    | ⟨0, _⟩ => exact row_div (y 0).val r.val 1 r.isLt (by decide)
    | ⟨1, _⟩ => exact row_mod (y 0).val r.val 1 _ r.isLt (by decide) rfl
  · rw [val_main_v19_apply, val_main_v17_apply, val_main_v16_apply, val_main_v14_apply, val_main_v12_apply, val_main_v13_apply,
      val_main_c_1_apply, val_main_v15_apply, val_main_c_2_apply, val_main_v18_apply, val_main_cst_3_apply]
    exact (shifted_weight 1 (by decide) _ _ rfl).trans (congrArg (weight 1) (congrArg w (ValueIdx.eq_ix2 _)))

theorem field2 (y : S6144x18432.Idx) : val_main_v34 (F := Ideal) z w y = fieldSum z w (y 0) (y 1) 2 := by
  rw [val_main_v34_apply]
  refine Finset.sum_congr rfl fun r _ => congrArg₂ (fun p q : EReal => p * q) ?_ ?_
  · rw [val_main_v33_apply, val_main_v32_apply, val_main_v0_apply]
    refine congrArg z (funext fun d => Fin.ext ?_)
    match d with
    | ⟨0, _⟩ => exact row_div (y 0).val r.val 2 r.isLt (by decide)
    | ⟨1, _⟩ => exact row_mod (y 0).val r.val 2 _ r.isLt (by decide) rfl
  · rw [val_main_v31_apply, val_main_v29_apply, val_main_v28_apply, val_main_v26_apply, val_main_v24_apply, val_main_v25_apply,
      val_main_c_4_apply, val_main_v27_apply, val_main_c_5_apply, val_main_v30_apply, val_main_cst_6_apply]
    exact (shifted_weight 2 (by decide) _ _ rfl).trans (congrArg (weight 2) (congrArg w (ValueIdx.eq_ix2 _)))

theorem field3 (y : S6144x18432.Idx) : val_main_v46 (F := Ideal) z w y = fieldSum z w (y 0) (y 1) 3 := by
  rw [val_main_v46_apply]
  refine Finset.sum_congr rfl fun r _ => congrArg₂ (fun p q : EReal => p * q) ?_ ?_
  · rw [val_main_v45_apply, val_main_v44_apply, val_main_v0_apply]
    refine congrArg z (funext fun d => Fin.ext ?_)
    match d with
    | ⟨0, _⟩ => exact row_div (y 0).val r.val 3 r.isLt (by decide)
    | ⟨1, _⟩ => exact row_mod (y 0).val r.val 3 _ r.isLt (by decide) rfl
  · rw [val_main_v43_apply, val_main_v41_apply, val_main_v40_apply, val_main_v38_apply, val_main_v36_apply, val_main_v37_apply,
      val_main_c_7_apply, val_main_v39_apply, val_main_c_8_apply, val_main_v42_apply, val_main_cst_9_apply]
    exact (shifted_weight 3 (by decide) _ _ rfl).trans (congrArg (weight 3) (congrArg w (ValueIdx.eq_ix2 _)))

/-- The reference's result. -/
theorem result_eq : val_main_v51 (F := Ideal) z w s = plain z w s := by
  funext y
  rw [val_main_v51_apply, val_main_v50_apply, val_main_v47_apply, val_main_v35_apply, val_main_v23_apply, val_main_v49_apply,
    val_main_v48_apply, field0, field1, field2, field3]
  unfold plain
  rw [Fin.sum_univ_four]
  refine congrArg₂ (fun p q : EReal => p * q) rfl (congrArg s (funext fun d => ?_))
  match d with
  | ⟨0, _⟩ => rfl

end Cert.ReferenceIdeal.Read

end
-- ==== Proof.Equation.lean ====
/-
  The kernel's product is the reference's.

  Before the call the features of `z` are put in another order: row `r` of the scratch holds the weights of field
  `r % 128 / 32` of code row `codeRow r`, so the feature that belongs to it is `feature (codeRow r) (r % 128 / 32)`
  (`entry_z`). As `r` runs through the 7168 rows, the field and the code row run through all pairs (`rows`), so the one
  sum of the kernel is the reference's four sums (`product_eq`).
-/
module

public import proofs.«01_k».proof.Proof.Product
public import proofs.«01_k».proof.Proof.Reference
public import Idealize.ShloMosaic.Lib.Claim
public import Idealize.ShloMosaic.Lib.Pipeline.Value

@[expose] public section

set_option maxRecDepth 16384

noncomputable section

open Idealize.ShloMosaic Idealize.ShloMosaic.TcCoe Idealize.SL.Sem

namespace Cert.Int2

open Cert.KernelIdeal.Value (codeRow)

/-- The field whose weights a row of the scratch holds. -/
def fieldOf (r : Fin 7168) : Fin 4 := ⟨r.val % 128 / 32, by omega⟩

/-- The rows of the scratch are the pairs of a field and a code row. -/
def rows : Fin 7168 ≃ Fin 4 × Fin 1792 where
  toFun r := (fieldOf r, codeRow r)
  invFun p := ⟨p.2.val / 32 * 128 + p.1.val * 32 + p.2.val % 2 * 16 + p.2.val % 32 / 2, by omega⟩
  left_inv := by decide +kernel
  right_inv := by decide +kernel

end Cert.Int2

namespace Cert.KernelIdeal.Value

open Cert.KernelIdeal Cert.KernelIdeal.Gen Cert.Int2

/-- The product of reordered features and of scales laid out as a row is the reference's. -/
theorem product_eq (z z' : S6144x7168.Idx → EReal) (w : S1792x18432.Idx → BitVec 8) (s : S18432.Idx → EReal) (s' : S1x18432.Idx → EReal)
    (hz : ∀ i r, z' (ValueIdx.ix2 i r) = z (ValueIdx.ix2 i (feature (codeRow r) (fieldOf r))))
    (hs : ∀ j, s' (ValueIdx.ix2 0 j) = s (ValueIdx.ix1 j)) : product z' w s' = plain z w s := by
  funext y
  unfold product plain fieldSum
  refine congrArg₂ (fun p q : EReal => p * q) ?_ (hs (y 1))
  rw [← Fintype.sum_prod_type' (f := fun (k : Fin 4) (r : Fin 1792) => z (ValueIdx.ix2 (y 0) (feature r k)) * weight k.val (w (ValueIdx.ix2 r (y 1))))]
  refine Fintype.sum_equiv rows _ _ fun r => ?_
  exact congrArg (fun q : EReal => q * weight (r.val % 128 / 32) (w (ValueIdx.ix2 (codeRow r) (y 1)))) (hz (y 0) r)

variable (m : (ℓ : Loc nD τ sig) → Buf (Elt Ideal) ℓ)

/-- The features as the call finds them. -/
theorem entry_z (c : Dev nD) (i : Fin 6144) (r : Fin 7168) :
    V m c main_v2 (ValueIdx.ix2 i r) = m ((c.tc : Thread nD τ).loc main_arg0) (ValueIdx.ix2 i (feature (codeRow r) (fieldOf r))) := by
  entry_read
  refine (shapeCast_apply (s := S6144x56x4x2x16) (t := S6144x7168) _ shapeCasts_S6144x56x4x2x16_S6144x7168 (ValueIdx.ix2 i r) (ValueIdx.ix5 i (⟨r.val / 128, by omega⟩ : Fin 56) (fieldOf r) (⟨r.val / 16 % 2, by omega⟩ : Fin 2) (⟨r.val % 16, by omega⟩ : Fin 16)) ?_).trans ?_
  · rw [Shape.rowMajor_val_five, Shape.rowMajor_val_two]
    show (((i.val * 56 + r.val / 128) * 4 + r.val % 128 / 32) * 2 + r.val / 16 % 2) * 16 + r.val % 16 = i.val * 7168 + r.val
    omega
  refine (transpose_apply (s := S6144x56x16x2x4) (t := S6144x56x4x2x16) _ _ _ _ (ValueIdx.ix5 i (⟨r.val / 128, by omega⟩ : Fin 56) (⟨r.val % 16, by omega⟩ : Fin 16) (⟨r.val / 16 % 2, by omega⟩ : Fin 2) (fieldOf r)) ?_).trans ?_
  · intro b
    match b with
    | ⟨0, _⟩ => rfl
    | ⟨1, _⟩ => rfl
    | ⟨2, _⟩ => rfl
    | ⟨3, _⟩ => rfl
    | ⟨4, _⟩ => rfl
  refine shapeCast_apply (s := S6144x7168) (t := S6144x56x16x2x4) _ _ _ _ ?_
  rw [Shape.rowMajor_val_two, Shape.rowMajor_val_five]
  show i.val * 7168 + (4 * (r.val / 128 * 32 + 2 * (r.val % 16) + r.val / 16 % 2) + r.val % 128 / 32)
    = (((i.val * 56 + r.val / 128) * 16 + r.val % 16) * 2 + r.val / 16 % 2) * 4 + r.val % 128 / 32
  omega

/-- The scales as the call finds them. -/
theorem entry_s (c : Dev nD) (j : Fin 18432) :
    V m c main_v3 (ValueIdx.ix2 0 j) = m ((c.tc : Thread nD τ).loc main_arg2) (ValueIdx.ix1 j) := by
  entry_read
  refine shapeCast_apply (s := S18432) (t := S1x18432) _ _ _ _ ?_
  rw [Shape.rowMajor_val_one, Shape.rowMajor_val_two]
  show j.val = 0 * 18432 + j.val
  omega

end Cert.KernelIdeal.Value

end
-- ==== Proof.lean ====
/-
  The proof of `Cert.Claim`: the kernel, its idealization and the reference run to the end and leave their arguments as
  they were; the idealization rewrote nothing; and over the extended reals the kernel's result is the reference's.

  Proof/Weight.lean says what a two-bit field stands for and how the kernel makes the weight; Proof/Scratch.lean what the
  scratch of unpacked weights holds; Proof/Product.lean what the result array holds; Proof/Reference.lean what the
  reference computes; Proof/Equation.lean that the two are equal.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Int2

/-- The reference runs to the end and leaves its arguments as they were. -/
theorem frame_reference : quiescent_ReferenceIdeal := by
  intro m g _
  exact (θ_run _ _ _).mono (fun r h => ⟨fun c => (h c).2, sem_eq_zero_of_no_sems rfl r.2⟩)
    (Cert.ReferenceIdeal.Value.run (F := Ideal) m g)

/-- Over the extended reals the kernel and the reference leave equal results. -/
theorem algebraic : algebraic_KernelIdeal_ReferenceIdeal := by
  intro m g m' g' _ hag
  refine ⟨fun c => plain (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · refine (θ_run _ _ _).mono (fun r h c => ⟨(h.1 c).trans ?_, h.2 c⟩)
      (θ_run_and (Cert.KernelIdeal.Value.run m g) (Cert.KernelIdeal.Gen.unchanged m g))
    unfold Cert.KernelIdeal.Value.result
    rw [Cert.KernelIdeal.Gen.V_main_arg1]
    exact Cert.KernelIdeal.Value.product_eq _ _ _ _ _ (fun i r => Cert.KernelIdeal.Value.entry_z m c i r)
      (fun j => Cert.KernelIdeal.Value.entry_s m c j)
  · refine (θ_run _ _ _).mono (fun r h c => ⟨(h c).1.trans ?_, (h c).2⟩) (Cert.ReferenceIdeal.Value.run (F := Ideal) m' g')
    rw [(hag c).1, (hag c).2.1, (hag c).2.2]
    exact Cert.ReferenceIdeal.Read.result_eq _ _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  trivial, algebraic⟩

end Cert.Proof

end
